-- ==== Defs.lean ====
def Pre_Kernel [hPre_swap_Kernel : Cert.Pre_swap_Kernel.Facts] (m : (ℓ : Loc Cert.Kernel.nD Cert.Kernel.τ Cert.Kernel.sig) → Buf (Elt Bits) ℓ) : Prop :=
  ∀ c : Dev Cert.Kernel.nD,
    (Cert.Pre_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keep_Kernel [hPre_keep_Kernel : Cert.Pre_keep_Kernel.Facts] (m : (ℓ : Loc Cert.Kernel.nD Cert.Kernel.τ Cert.Kernel.sig) → Buf (Elt Bits) ℓ) : Prop :=
  ∀ c : Dev Cert.Kernel.nD,
    (Cert.Pre_keep_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swap_Kernel : Cert.Pre_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keep_Kernel [hPre_keep_Kernel : Cert.Pre_keep_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keep_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swap_ReferenceIdeal [hPre_swap_ReferenceIdeal : Cert.Pre_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keep_ReferenceIdeal [hPre_keep_ReferenceIdeal : Cert.Pre_keep_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keep_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keep_Kernel [hKernel : Cert.Kernel.Facts] [hPre_keep_Kernel : Cert.Pre_keep_Kernel.Facts] : Prop :=
  ∀ (m : (ℓ : Loc Cert.Kernel.nD Cert.Kernel.τ Cert.Kernel.sig) → Buf (Elt Bits) ℓ) (g : Dev Cert.Kernel.nD → PrngReg), Pre_Kernel_keep_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keep_Kernel [hKernelIdeal : Cert.KernelIdeal.Facts] [hPre_keep_Kernel : Cert.Pre_keep_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keep_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_ReferenceIdeal [hReferenceIdeal : Cert.ReferenceIdeal.Facts] [hPre_swap_ReferenceIdeal : Cert.Pre_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keep_ReferenceIdeal [hReferenceIdeal : Cert.ReferenceIdeal.Facts] [hPre_keep_ReferenceIdeal : Cert.Pre_keep_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keep_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keep_Kernel [hKernelIdeal : Cert.KernelIdeal.Facts] [hReferenceIdeal : Cert.ReferenceIdeal.Facts] [hPre_keep_Kernel : Cert.Pre_keep_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keep_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swap_Kernel : Cert.Pre_swap_Kernel.Facts) (hPre_keep_Kernel : Cert.Pre_keep_Kernel.Facts) (hPre_swap_ReferenceIdeal : Cert.Pre_swap_ReferenceIdeal.Facts) (hPre_keep_ReferenceIdeal : Cert.Pre_keep_ReferenceIdeal.Facts),
    quiescent_Kernel (hKernel := hKernel) (hPre_swap_Kernel := hPre_swap_Kernel)
    ∧ quiescent_Kernel_pre_keep_Kernel (hKernel := hKernel) (hPre_keep_Kernel := hPre_keep_Kernel)
    ∧ quiescent_KernelIdeal (hKernelIdeal := hKernelIdeal) (hPre_swap_Kernel := hPre_swap_Kernel)
    ∧ quiescent_KernelIdeal_pre_keep_Kernel (hKernelIdeal := hKernelIdeal) (hPre_keep_Kernel := hPre_keep_Kernel)
    ∧ quiescent_ReferenceIdeal (hReferenceIdeal := hReferenceIdeal)
    ∧ quiescent_ReferenceIdeal_pre_swap_ReferenceIdeal (hReferenceIdeal := hReferenceIdeal) (hPre_swap_ReferenceIdeal := hPre_swap_ReferenceIdeal)
    ∧ quiescent_ReferenceIdeal_pre_keep_ReferenceIdeal (hReferenceIdeal := hReferenceIdeal) (hPre_keep_ReferenceIdeal := hPre_keep_ReferenceIdeal)
    ∧ preserves_Kernel_KernelIdeal
    ∧ algebraic_KernelIdeal_ReferenceIdeal (hKernelIdeal := hKernelIdeal) (hReferenceIdeal := hReferenceIdeal) (hPre_swap_Kernel := hPre_swap_Kernel)
    ∧ algebraic_KernelIdeal_ReferenceIdeal_pre_keep_Kernel (hKernelIdeal := hKernelIdeal) (hReferenceIdeal := hReferenceIdeal) (hPre_keep_Kernel := hPre_keep_Kernel)
-- ==== Pre_keep_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_keep_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swap_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swap_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x256x256 : Shape := ⟨3, ![1, 256, 256]⟩
abbrev S2 : Shape := ⟨1, ![2]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x256x256, .bf16⟩
  | .hbm, ⟨1, _⟩ => ⟨S2, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .smem, ⟨0, _⟩ => ⟨S2, .i32⟩
  | _, _ => ⟨S1x256x256, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.smem, 0, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_6 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v15 : BitVec 32 := Scalar.muli v2 c8_i32_5
  let v16 : BitVec 32 := Scalar.addi c0_i32_6 v15
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_7 : BitVec 32 := 4#32
  let v17 : BitVec 32 := Scalar.muli v9 c4_i32_7
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v19 : BitVec 32 := Scalar.muli v8 c1_i32_8
  let v20 : BitVec 32 := Scalar.addi v18 v19
  v20.toNat
def k0_dev2 (d0 : Dev nD) (v26 : BitVec 32) (v27 : BitVec 32) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v39 : BitVec 32 := Scalar.muli v2 c8_i32_22
  let v40 : BitVec 32 := Scalar.addi c0_i32_23 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_12 : BitVec 32 := 0#32
  let v25 : BitVec 1 := Scalar.cmpi .eq v5 c0_i32_12
  let v28 : BitVec 32 := Scalar.select v25 v26 v27
  let c4_i32_24 : BitVec 32 := 4#32
  let v41 : BitVec 32 := Scalar.muli v28 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_cond1 (d0 : Dev nD) (v26 : BitVec 32) (v27 : BitVec 32) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_12 : BitVec 32 := 0#32
  let v25 : BitVec 1 := Scalar.cmpi .eq v5 c0_i32_12
  let v28 : BitVec 32 := Scalar.select v25 v26 v27
  let v29 : BitVec 1 := Scalar.cmpi .ne v28 v5
  let v34 : BitVec 32 := Scalar.extui v29
  let c0_i32_19 : BitVec 32 := 0#32
  let v35 : BitVec 1 := Scalar.cmpi .ne v34 c0_i32_19
  v35

def k0_chk1 (d0 : Dev nD) (v26 : BitVec 32) (v27 : BitVec 32) : Prop :=
  (∀ (k0_h1 : k0_cond1 d0 v26 v27 = 1#1), (k0_dev2 d0 v26 v27) < nD)
theorem k0_dev2_lt : ∀ (d0 : Dev nD) (v26 : BitVec 32) (v27 : BitVec 32) (k0_hw1 : k0_chk1 d0 v26 v27), ∀ (k0_h1 : k0_cond1 d0 v26 v27 = 1#1), (k0_dev2 d0 v26 v27) < nD := fun d0 v26 v27 k0_hw1 k0_h1 => k0_hw1 k0_h1
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | .hbm, ⟨14, _⟩ => ⟨S2x256x256, .f32⟩
  | .hbm, ⟨15, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Protocol.lean ====
/-
# Protocol: what the devices hand one another

Sixteen devices on a mesh 2 x 2 x 4; a device's neighbour is the one whose `y` coordinate differs. Each device
copies the table `pi` to scalar memory and its block of `x` to vector memory, raises its neighbour's barrier
semaphore and waits for its own to be raised, and then either sends its block into its neighbour's result array
(when `pi` swaps the two rows) or copies it into its own (when `pi` keeps them).

The whole development is over any float carrier `F` and over `sw : Bool`, which of the two tables every device holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Transfers
public import Idealize.ShloMosaic.Lib.Tactic

@[expose] public section

noncomputable section

namespace Cert.RowSwap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

/-! ## The algebra: the launch's copy, the devices' rounds, the local copies' counters -/

abbrev UB : Type := URounds (GSem nD τ sig) Unit
abbrev UU : Type := UR sig nD τ × (UB × Counters)

local notation "𝕄" => MT nD τ sig Unit (Elt F) ℕ UU ℕ

/-- Where the launch's own bookkeeping lies. -/
abbrev EP : Emb (UR sig nD τ) (MT nD τ sig Unit (Elt F) ℕ UU ℕ) := embL
/-- Where the devices' rounds lie. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- Where the local copies' counters lie. -/
abbrev EC : UEmb Counters (MT nD τ sig Unit (Elt F) ℕ UU ℕ) := countersEmb

/-! ## The two tables -/

/-- The table `pi` every device holds: `[1, 0]` when the rows swap, `[0, 1]` when they stay. -/
def table (sw : Bool) : S2.Idx → BitVec 32 := fun i =>
  if (i 0).val = 0 then (if sw then 1#32 else 0#32) else (if sw then 0#32 else 1#32)

variable (sw : Bool) (m : (ℓ : Loc nD τ sig) → Buf (Elt F) ℓ) (ρ : Dev nD → PrngReg)

/-- Every device's table is the one `sw` names. -/
def Tables : Prop := ∀ c : Dev nD, m ((c : Thread nD τ).loc main_arg1) = table sw

/-! ## The neighbour -/

set_option backward.proofsInPublic true in
/-- The device whose `y` coordinate is the other one. -/
def nbr (c : Dev nD) : Dev nD :=
  ⟨(8 * (c.val / 8) + (c.val % 4) + 4) - 4 * ((c.val / 4) % 2), by have := c.isLt; simp only [nD] at *; omega⟩

theorem nbr_nbr (c : Dev nD) : nbr (nbr c) = c := by revert c; decide
theorem dev1_eq (c : Dev nD) : (⟨k0_dev1 c, k0_dev1_lt c⟩ : Dev nD) = nbr c := Fin.ext (k0_dev1_eq c)
/-- The neighbour map undoes itself. -/
def flip : Dev nD ≃ Dev nD := ⟨nbr, nbr, nbr_nbr, nbr_nbr⟩

/-- Under the swapping table every device sends, under the keeping table none does; the words decide it. -/
theorem cond_swap (c : Dev nD) : k0_cond1 c 1#32 0#32 = 1#1 := by revert c; decide +kernel
theorem cond_keep (c : Dev nD) : k0_cond1 c 0#32 1#32 = 0#1 := by revert c; decide +kernel
/-- and what it sends goes to its neighbour. -/
theorem dev2_val (c : Dev nD) : k0_dev2 c 1#32 0#32 = (nbr c).val := by revert c; decide +kernel

/-! ## The buffers and semaphores -/

abbrev piM : Memref sig .tc .hbm S2 .i32 := Memref.whole main_arg1
abbrev xM : Memref sig .tc .hbm S1x256x256 .bf16 := Memref.whole main_arg0
abbrev oM : Memref sig .tc .hbm S1x256x256 .bf16 := Memref.whole main_v1
abbrev xV : Memref sig .tc .vmem S1x256x256 .bf16 := Memref.whole cc0_scratch0
abbrev cV : Memref sig .tc .vmem S1x256x256 .bf16 := Memref.whole cc0_scratch1
abbrev pS : Memref sig .tc .smem S2 .i32 := Memref.whole cc0_scratch2

/-- The barrier semaphore both neighbours share, not scoped to the kernel. -/
abbrev barS : Sem sig := (SemArray.scalar (sig.barrier 0 rfl) : Sems sig S_).sem
/-- The semaphore the send raises when the source has been read, and the one it raises at its target. -/
abbrev sendS : DmaSem sig := cc0_scratch4.sem
abbrev recvS : DmaSem sig := cc0_scratch5.sem
/-- The two semaphores of the local copies. -/
abbrev copy0 : DmaSem sig := ((cc0_scratch3.slice (Rect.unit (s := S2) ![0] S1.size inb_S2_S1_0)).squeeze S_ squeezes_S1_S_).sem
abbrev copy1 : DmaSem sig := ((cc0_scratch3.slice (Rect.unit (s := S2) ![1] S1.size inb_S2_S1_1)).squeeze S_ squeezes_S1_S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The kernel's own semaphores: the two copies', send, receive; -/
abbrev osem : Fin 4 → SemLoc sig := fun | 0 => .dma copy0 | 1 => .dma copy1 | 2 => .dma sendS | 3 => .dma recvS
/-- and the three two devices meet on: barrier, send, receive. -/
abbrev csem : Fin 3 → SemLoc sig := fun | 0 => .reg barS | 1 => .dma sendS | 2 => .dma recvS
abbrev kcell (ck : Dev nD × Fin 3) : GSem nD τ sig := ((ck.1 : Thread nD τ), csem ck.2)

/-- What one block credits a semaphore. -/
abbrev N : ℕ := oM.view.dmaCredit
theorem N_pos : 0 < N := View.dmaCredit_pos _ (by decide)
/-- What a device's receive semaphore is credited: a block when the rows swap, nothing when they stay. -/
def due : ℕ := if sw then N else 0

/-! ## Contents -/

/-- Device `c`'s block of `x` at launch. -/
abbrev xAt (c : Dev nD) : Buf (Elt F) ((c : Thread nD τ).loc main_arg0) := m ((c : Thread nD τ).loc main_arg0)
/-- The block device `c`'s result holds at the end: its neighbour's if the rows swap, its own if they stay. -/
def outAt (c : Dev nD) : Buf (Elt F) ((c : Thread nD τ).loc main_v1) := if sw then xAt m (nbr c) else xAt m c

/-- Device `c` holds buffer `b` whole at contents `f`. -/
abbrev holds (c : Dev nD) (b : Ref sig .tc) (f : Buf (Elt F) ((c : Thread nD τ).loc b)) : sProp 𝕄 :=
  ((c : Thread nD τ).loc b) ↦{fullShare} f

/-! ## The schedule -/

/-- What the neighbour's signal hands device `c` when the rows swap: the neighbour's result array to write into, and
    that the neighbour's receive semaphore is in its first round. -/
def barPay (c : Dev nD) : sProp 𝕄 :=
  if sw then iprop((∃ f, holds (nbr c) main_v1 f) ∗ reached ER (recvCell (nbr c)) 0) else iprop(emp)
/-- What the arrival hands device `c`: its result array, holding its neighbour's block. -/
def recvPay (c : Dev nD) : sProp 𝕄 := holds c main_v1 (xAt m (nbr c))
/-- What the departure hands back: the buffer sent, still at the device's own block. -/
def sendPay (c : Dev nD) : sProp 𝕄 := holds (F := F) c cc0_scratch1 (xAt m c)

omit [FloatOps F] in
instance recvPay_storable (c : Dev nD) : BI.Storable (upEmb : UEmb _ 𝕄) (recvPay m c) := by unfold recvPay; infer_instance
omit [FloatOps F] in
instance sendPay_storable (c : Dev nD) : BI.Storable (upEmb : UEmb _ 𝕄) (sendPay m c) := by unfold sendPay; infer_instance
omit [FloatOps F] in
instance barPay_storable (c : Dev nD) : BI.Storable (upEmb : UEmb _ 𝕄) (barPay (F := F) sw c) := by
  unfold barPay; split <;> infer_instance

abbrev IsBar (g : GSem nD τ sig) : Prop := g.1.2 = .tc ∧ g.2 = .reg barS
abbrev IsXfer (g : GSem nD τ sig) : Prop := g.1.2 = .tc ∧ (g.2 = .dma sendS ∨ g.2 = .dma recvS)

/-- One round: a barrier semaphore is raised once by the neighbour; a send and a receive semaphore are each credited one
    block when the rows swap, and never when they stay. -/
def plan : Rounds.Schedule (GSem nD τ sig) Unit 𝕄 where
  duties g r := if r = 0 ∧ IsBar g then {()} else if r = 0 ∧ sw = true ∧ IsXfer g then {()} else ∅
  unitless _ := False
  amount g _ _ := if g.2 = .reg barS then 1 else N
  payload g _ _ :=
    if g.2 = .reg barS then barPay sw g.1.1
    else if g.2 = .dma recvS then recvPay m g.1.1
    else if g.2 = .dma sendS then sendPay m g.1.1
    else iprop(emp)
  amount_pos g _ _ _ := by
    by_cases h : g.2 = .reg barS
    · rw [if_pos h]; exact Nat.one_pos
    · rw [if_neg h]; exact N_pos

instance plan_payload_storable (g : GSem nD τ sig) (r : ℕ) (d : Unit) :
    BI.Storable (upEmb : UEmb _ 𝕄) ((plan (F := F) sw m).payload g r d) := by
  dsimp only [plan]; (repeat' split) <;> infer_instance

section Plan
variable (c : Dev nD)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide
theorem copy0_ne_recv : (SemLoc.dma copy0 : SemLoc sig) ≠ .dma recvS := by decide
theorem copy1_ne_recv : (SemLoc.dma copy1 : SemLoc sig) ≠ .dma recvS := by decide

omit [FloatOps F] in
theorem duties_bar : (plan (F := F) sw m).duties (barCell c) 0 = {()} := by
  dsimp only [plan]; exact if_pos ⟨rfl, rfl, rfl⟩
omit [FloatOps F] in
theorem duties_send : (plan (F := F) true m).duties (sendCell c) 0 = {()} := by
  dsimp only [plan]; rw [if_neg fun h => send_ne_bar h.2.2]; exact if_pos ⟨rfl, rfl, rfl, .inl rfl⟩
omit [FloatOps F] in
theorem duties_recv : (plan (F := F) true m).duties (recvCell c) 0 = {()} := by
  dsimp only [plan]; rw [if_neg fun h => recv_ne_bar h.2.2]; exact if_pos ⟨rfl, rfl, rfl, .inr rfl⟩
omit [FloatOps F] in
/-- No semaphore has a second round; -/
theorem duties_later (g : GSem nD τ sig) : ∀ r, 1 ≤ r → (plan (F := F) sw m).duties g r = ∅ :=
  fun r hr => by dsimp only [plan]; rw [if_neg fun h => by omega, if_neg fun h => by omega]
omit [FloatOps F] in
/-- and when the rows stay, a send or receive semaphore has not even a first. -/
theorem duties_keep (q : DmaSem sig) : ∀ r, 0 ≤ r → (plan (F := F) false m).duties ((c : Thread nD τ), .dma q) r = ∅ :=
  fun r _ => by
    dsimp only [plan]
    exact (if_neg fun h => by have h' := h.2.2; cases h').trans (if_neg fun h => Bool.false_ne_true h.2.1)

omit [FloatOps F] in
theorem amount_bar (d : Unit) : (plan (F := F) sw m).amount (barCell c) 0 d = 1 := by dsimp only [plan]; exact if_pos rfl
omit [FloatOps F] in
theorem amount_send (d : Unit) : (plan (F := F) sw m).amount (sendCell c) 0 d = N := by dsimp only [plan]; exact if_neg send_ne_bar
omit [FloatOps F] in
theorem amount_recv (d : Unit) : (plan (F := F) sw m).amount (recvCell c) 0 d = N := by dsimp only [plan]; exact if_neg recv_ne_bar

omit [FloatOps F] in
theorem expect_bar : (plan (F := F) sw m).expect (barCell c) 0 = 1 := by
  unfold Schedule.expect Schedule.amountOf; rw [duties_bar, Finset.sum_singleton, amount_bar]
omit [FloatOps F] in
theorem expect_send : (plan (F := F) true m).expect (sendCell c) 0 = N := by
  unfold Schedule.expect Schedule.amountOf; rw [duties_send, Finset.sum_singleton, amount_send]
omit [FloatOps F] in
theorem expect_recv : (plan (F := F) true m).expect (recvCell c) 0 = N := by
  unfold Schedule.expect Schedule.amountOf; rw [duties_recv, Finset.sum_singleton, amount_recv]

omit [FloatOps F] in
theorem payload_bar (d : Unit) : (plan (F := F) sw m).payload (barCell c) 0 d = barPay sw c := by dsimp only [plan]; exact if_pos rfl
omit [FloatOps F] in
theorem payload_recv (d : Unit) : (plan (F := F) sw m).payload (recvCell c) 0 d = recvPay m c := by
  dsimp only [plan]; rw [if_neg recv_ne_bar, if_pos rfl]
omit [FloatOps F] in
theorem payload_send (d : Unit) : (plan (F := F) sw m).payload (sendCell c) 0 d = sendPay m c := by
  dsimp only [plan]; rw [if_neg send_ne_bar, if_neg send_ne_recv, if_pos rfl]

omit [FloatOps F] in
/-- All a barrier round hands over, no part of it taken yet. -/
theorem rest_bar : bigSep ((plan (F := F) sw m).duties (barCell c) 0 \ ∅) (fun d => (plan (F := F) sw m).payload (barCell c) 0 d) = barPay sw c := by
  rw [Finset.sdiff_empty, duties_bar, bigSep_singleton, payload_bar]
omit [FloatOps F] in
/-- All a departure hands back. -/
theorem rest_send : bigSep ((plan (F := F) true m).duties (sendCell c) 0 \ ∅) (fun d => (plan (F := F) true m).payload (sendCell c) 0 d) = sendPay m c := by
  rw [Finset.sdiff_empty, duties_send, bigSep_singleton, payload_send]
omit [FloatOps F] in
/-- All an arrival hands over. -/
theorem rest_recv : bigSep ((plan (F := F) true m).duties (recvCell c) 0 \ ∅) (fun d => (plan (F := F) true m).payload (recvCell c) 0 d) = recvPay m c := by
  rw [Finset.sdiff_empty, duties_recv, bigSep_singleton, payload_recv]

end Plan

/-! ## What a device owes, and the order of the waits -/

/-- Past its signal a device owes its neighbour's receive semaphore a block, when the rows swap; -/
def O₁ (c : Dev nD) : CellTallies nD τ sig Unit := tallyAt (recvCell (nbr c)) () (due sw)
/-- at launch the signal too. -/
def O₀ (c : Dev nD) : CellTallies nD τ sig Unit := O₁ sw c + tallyAt (barCell (nbr c)) () 1

def L (g : GSem nD τ sig) : Finset Unit := if g.1.2 = .tc then {()} else ∅
/-- Barrier semaphores at 1, receive semaphores at 2, all others at 0. -/
def lv (g : GSem nD τ sig) (_ : Unit) : ℕ := if g.2 = .reg barS then 1 else if g.2 = .dma recvS then 2 else 0

theorem L_of_ne (g : GSem nD τ sig) (h : g.1.2 ≠ .tc) : L g = ∅ := if_neg h
theorem L_tc (c : Dev nD) (sm : SemLoc sig) : L ((c : Thread nD τ), sm) = {()} := if_pos rfl

/-- What is owed past the signal is owed to the neighbour's receive semaphore. -/
theorem O₁_pos {c : Dev nD} {g : GSem nD τ sig} {u : Unit} (h : 0 < O₁ sw c g u) : g = recvCell (nbr c) := by
  unfold O₁ at h
  rw [tallyAt_apply] at h
  by_contra hn
  rw [if_neg fun h' => hn h'.1] at h
  exact Nat.lt_irrefl 0 h

omit [FloatOps F] in
/-- A wait on any semaphore below the receive semaphores may be made while the block is still owed. -/
theorem mayWait_below (c : Dev nD) (sm : SemLoc sig) (k : ℕ) (hk : k < 2) (hs : lv ((c : Thread nD τ), sm) () = k) :
    (levAts L lv : sProp 𝕄) ⊢ MayWait (c : Thread nD τ) sm () (O₁ sw c) :=
  MayOwe.of_cut (L := L) (lev := lv) k
    (fun p hp => by rw [Finset.mem_singleton.mp hp, L_tc]; exact Finset.mem_singleton_self _)
    (fun g u hg => by rw [O₁_pos sw hg, L_tc]; exact Finset.mem_singleton_self _)
    (fun p hp => by rw [Finset.mem_singleton.mp hp, hs])
    (fun g u hg => by
      rw [O₁_pos sw hg]; dsimp only [lv]; rw [if_neg recv_ne_bar, if_pos rfl]; exact hk)

theorem lv_bar (c : Dev nD) : lv (barCell c) () = 1 := if_pos rfl
theorem lv_dma (c : Dev nD) (q : DmaSem sig) (h : (SemLoc.dma q : SemLoc sig) ≠ .dma recvS) : lv ((c : Thread nD τ), .dma q) () = 0 :=
  (if_neg fun h => by cases h).trans (if_neg h)

end Cert.RowSwap

end
-- ==== Proof.Tables.lean ====
/-
# Tables: what the two preconditions say

Each precondition compares the two words of `pi` with constants and takes the conjunction; here that is read back as
an equation on the whole array, at any float carrier.
-/
module

public import proofs.«01_k».proof.Proof.Protocol
public import proofs.«01_k».proof.Proof.Gen.Pre_swap_Kernel
public import proofs.«01_k».proof.Proof.Gen.Pre_keep_Kernel

@[expose] public section

noncomputable section

namespace Cert.RowSwap

open Cert.KernelIdeal Cert.KernelIdeal.Gen
open Idealize.ShloMosaic

variable {F : FTy → Type} [FloatOps F]

/-- The conjunction of two equality tests on words is one exactly when both equalities hold. -/
theorem both_eq (a b u v : BitVec 32) (h : IntOp.andi (IntOp.cmpi .eq a u) (IntOp.cmpi .eq b v) = 1#1) :
    a = u ∧ b = v := by
  have key : ∀ p q : Bool, BitVec.ofBool p &&& BitVec.ofBool q = 1#1 → p = true ∧ q = true := by decide
  exact ⟨eq_of_beq (key _ _ h).1, eq_of_beq (key _ _ h).2⟩

/-- The index of a table's word `r`. -/
def at2 (r : Fin 2) : S2.Idx := fun a => match a with | ⟨0, _⟩ => r

/-- An array of two words is the table of `sw` once its words at positions 0 and 1 are. -/
theorem eq_table (sw : Bool) (p : S2.Idx → BitVec 32) (h0 : p (at2 0) = table sw (at2 0))
    (h1 : p (at2 1) = table sw (at2 1)) : p = table sw := by
  funext i
  have hi : i = at2 0 ∨ i = at2 1 := by revert i; decide
  rcases hi with rfl | rfl
  · exact h0
  · exact h1

/-- The first precondition holds of `pi = [1, 0]` only. -/
theorem table_of_swap (x : FVec F Cert.Pre_swap_Kernel.S1x256x256 .bf16) (p : IVec S2 32)
    (h : Cert.Pre_swap_Kernel.fn (F := F) x p = fun _ => 1#1) : p = table true := by
  have h' := congrFun h (fun a => a.elim0)
  obtain ⟨h0, h1⟩ := both_eq _ _ _ _ h'
  refine eq_table true p ?_ ?_
  · exact (congrArg p (by decide)).trans h0
  · exact (congrArg p (by decide)).trans h1

/-- The second precondition holds of `pi = [0, 1]` only. -/
theorem table_of_keep (x : FVec F Cert.Pre_keep_Kernel.S1x256x256 .bf16) (p : IVec S2 32)
    (h : Cert.Pre_keep_Kernel.fn (F := F) x p = fun _ => 1#1) : p = table false := by
  have h' := congrFun h (fun a => a.elim0)
  obtain ⟨h0, h1⟩ := both_eq _ _ _ _ h'
  refine eq_table false p ?_ ?_
  · exact (congrArg p (by decide)).trans h0
  · exact (congrArg p (by decide)).trans h1

end Cert.RowSwap

end
-- ==== Proof.Reference.lean ====
/-
# Reference: the rows the one-device program returns

The reference sorts the positions by `pi` and reads the rows of `x` in that order. At the two tables that order is
the table itself, so the result is `x` with its two rows exchanged, or `x`.
-/
module

public import proofs.«01_k».proof.Proof.Tables
public import proofs.«01_k».proof.Proof.Gen.ReferenceIdeal.Run
public import Idealize.ShloMosaic.Lib.Layout
public import Idealize.ShloMosaic.PureOps.Ideal

@[expose] public section

noncomputable section

namespace Cert.RowSwap

open Cert.ReferenceIdeal Cert.ReferenceIdeal.Gen
open Idealize.ShloMosaic Idealize.SL.Sem

/-! ## The order of the rows -/

/-- Sorting the positions by the table puts them in the order the table lists: it is its own inverse. -/
theorem argsort_table (sw : Bool) :
    (Host.sort2 S2 0 comparator_i32_i32_d0 (table sw) (iotaInDim S2 32 0)).2 = table sw := by
  revert sw; decide +kernel

/-- No word of the table is negative, so the wrap of negative positions leaves it as it is. -/
theorem wrap_table (sw : Bool) :
    select (cmpi .slt (table sw) (broadcastInDim S2 ![] bcast_S_S2 (constantI S_ 32 0#32)))
      (addi (table sw) (broadcastInDim S2 ![] bcast_S_S2 (constantI S_ 32 2#32))) (table sw) = table sw := by
  revert sw; decide +kernel

/-! ## The rows read -/

/-- The row a result's row `r` is taken from. -/
def src (sw : Bool) (r : Fin 2) : Fin 2 := if sw then 1 - r else r

/-- The element a result's element is taken from: the same place of the row `src` names. -/
def srcIdx (sw : Bool) (i : S2x256x256.Idx) : S2x256x256.Idx := Function.update i 0 (src sw (i 0))

/-- `x` with its rows in the table's order. -/
def rows {α : Type} (sw : Bool) (x : S2x256x256.Idx → α) : S2x256x256.Idx → α := fun i => x (srcIdx sw i)

/-- The table's word for a row, read signed and clamped to the two rows there are, is `src`. -/
theorem word_src (sw : Bool) (r : Fin 2) : min (table sw (at2 r)).toInt.toNat 1 = (src sw r).val := by
  revert sw r; decide +kernel

/-- The other row, as a number. -/
theorem src_swap (r : Fin 2) : (src true r).val = 1 - r.val := by
  revert r; decide

/-- The gather of the rows at the table's words. -/
theorem gather_rows {α : Type} (sw : Bool) (x : S2x256x256.Idx → α) :
    Host.gather gather_S2x256x256_S2x1_S2x256x256_12_0_n_n_0_1_1256256 x
      (broadcastInDim S2x1 ![0] bcast_S2_S2x1_0 (table sw)) = rows sw x := by
  funext i
  unfold Host.gather rows
  congr 1
  funext a
  refine Fin.ext ?_
  match a with
  | ⟨0, _⟩ =>
    refine Eq.trans ?_ (word_src sw (i 0))
    rfl
  | ⟨1, _⟩ => exact Nat.zero_add _
  | ⟨2, _⟩ => exact Nat.zero_add _

/-! ## The run -/

/-- The reference's run from a memory whose table is `sw`'s: its result is `x` with the rows in that order, its
    arguments as they were. -/
theorem reference_run (sw : Bool) (m : (ℓ : Loc nD τ sig) → Buf (Elt Ideal) ℓ) (ρ : Dev nD → PrngReg)
    (hT : m (((0 : Dev nD).tc : Thread nD τ).loc main_arg1) = table sw) :
    θ_run defs (onTc (τ := τ) (main (F := Ideal))) ⟨m, fun _ => 0, ρ⟩ fun r =>
      r.2.mem (((0 : Dev nD).tc : Thread nD τ).loc main_v9) = rows sw (m (((0 : Dev nD).tc : Thread nD τ).loc main_arg0))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) :=
  (θ_run defs _ _).mono (fun _ h => ⟨(h 0).1.trans (by
    rw [hT, argsort_table, wrap_table, gather_rows]; rfl), (h 0).2⟩) (Value.run (F := Ideal) m ρ)

/-- The reference's frame, at any memory. -/
theorem reference_frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩)
    (Value.run (F := Ideal) m ρ)

/-! ## A device's block of the rows -/

/-- The row of the whole array a device holds: its `y` coordinate. -/
abbrev rowAt (c : Dev Cert.KernelIdeal.nD) :=
  Layout.meshBlock (r := 3) [2, 2, 4] ![[1], [], []] c

/-- A device's row is its `y` coordinate. -/
theorem rowAt_val (c : Dev Cert.KernelIdeal.nD) : (rowAt c 0).val = (c.val / 4) % 2 := by
  revert c; decide +kernel

/-- Where the element at `i` of a device's block is in the whole array. -/
theorem row_idx (c : Dev Cert.KernelIdeal.nD) (h : Layout.TilesN ⟨3, ![1, 256, 256]⟩ ⟨3, ![2, 256, 256]⟩ (fun b => Layout.cutSize [2, 2, 4] (![[1], [], []] b)))
    (i : Shape.Idx ⟨3, ![1, 256, 256]⟩) : (h.idx (rowAt c) i 0).val = (c.val / 4) % 2 := by
  rw [Layout.TilesN.idx_val]
  have hi : (i 0).val < 1 := (i 0).isLt
  have := rowAt_val c
  show (rowAt c 0).val * 1 + (i 0).val = _
  omega

/-- The neighbour's row is the other one. -/
theorem nbr_row (c : Dev Cert.KernelIdeal.nD) : ((nbr c).val / 4) % 2 = 1 - (c.val / 4) % 2 := by
  revert c; decide +kernel

/-- A device's block of the rows in the table's order is its neighbour's block of the array when the rows swap and
    its own when they stay. -/
theorem block_rows {α : Type} (sw : Bool) (c : Dev Cert.KernelIdeal.nD) (x : S2x256x256.Idx → α) :
    Layout.blockN ⟨3, ![1, 256, 256]⟩ ⟨3, ![2, 256, 256]⟩ (rowAt c) (rows sw x)
      = if sw then Layout.blockN ⟨3, ![1, 256, 256]⟩ ⟨3, ![2, 256, 256]⟩ (rowAt (nbr c)) x
        else Layout.blockN ⟨3, ![1, 256, 256]⟩ ⟨3, ![2, 256, 256]⟩ (rowAt c) x := by
  cases sw
  · funext i
    show x (srcIdx false _) = x _
    exact congrArg x (Function.update_eq_self _ _)
  · funext i
    show x (srcIdx true _) = x _
    congr 1
    funext a
    refine Fin.ext ?_
    match a with
    | ⟨0, _⟩ =>
      refine (src_swap _).trans ?_
      exact (congrArg (1 - ·) (row_idx c (by decide) i)).trans ((row_idx (nbr c) (by decide) i).trans (nbr_row c)).symm
    | ⟨1, _⟩ => rfl
    | ⟨2, _⟩ => rfl

end Cert.RowSwap

end
-- ==== Proof.Body.lean ====
/-
# Body: one device's kernel, effect by effect
-/
module

public import proofs.«01_k».proof.Proof.Protocol
public import Idealize.ShloMosaic.Lib.Pipeline.Value

@[expose] public section

noncomputable section

namespace Cert.RowSwap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

local notation "𝕄" => MT nD τ sig Unit (Elt F) ℕ UU ℕ

abbrev 𝒱₀ : Variants := Variants.none

variable (sw : Bool) (m : (ℓ : Loc nD τ sig) → Buf (Elt F) ℓ) (ρ : Dev nD → PrngReg)

/-! ## Local copies under a debt -/

/-- Waiting for a local copy while something is still owed elsewhere: the flight is over, what it delivers is the
    device's, and the semaphore is at zero again. -/
theorem wait_copy (c : Dev nD) {sp sp' : Space} {s s' : Shape} {e e' : EltTy} {sem : DmaSem sig}
    {srcw : Memref sig .tc sp' s' e'} {dstw : Memref sig .tc sp s e} {hsrc : srcw.view.WordExact} {hdst : dstw.view.WordExact}
    {α : Type} {Q : α → sProp 𝕄} {k : PUnit → Prog (TpuEff nD τ sig (Elt F) Λ₀ .tc) α}
    {D : sProp 𝕄} {O : CellTallies nD τ sig Unit} {W : Waits sig Unit} :
    iprop(Flight EC (c : Thread nD τ) (.dma sem) () dstw.view.dmaCredit D ∗ owes (c : Thread nD τ) O W ∗ MayWait (c : Thread nD τ) (.dma sem) () O)
      ⊢ iprop(((D ∗ semVal ((c : Thread nD τ), .dma sem) 0 ∗ owes (c : Thread nD τ) O (insert (SemLoc.dma sem, ()) W))
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  unfold Flight
  iintro ⟨⟨⟨%R, HR, %hlower, -⟩, Hc⟩, HO, HM⟩ Hk
  iapply (wp_waitDma_token 𝒱₀ (c : Thread nD τ) none Set.univ () (O := O) (W := W)) $$ [Hc HO HM]
  · isplitl [Hc]; · iexact Hc
    isplitl [HO] <;> iassumption
  iapply (hlower _)
  isplitl [HR]; · iexact HR
  iintro ⟨Hv, HD⟩ HO
  iapply Hk
  isplitl [HD]; · iexact HD
  isplitl [Hv] <;> iassumption

/-! ## Contents -/

/-- The table's two words. -/
def word0 : BitVec 32 := if sw then 1#32 else 0#32
def word1 : BitVec 32 := if sw then 0#32 else 1#32

omit [FloatOps F] in
theorem read_word0 : (pS.access (Rect.unit (s := S2) ![0] S1.size inb_S2_S1_0)).read (Elt F) (table sw)
    (Shape.Idx.first (numel1_S1.symm ▸ Nat.one_pos)) = word0 sw := rfl
omit [FloatOps F] in
theorem read_word1 : (pS.access (Rect.unit (s := S2) ![1] S1.size inb_S2_S1_1)).read (Elt F) (table sw)
    (Shape.Idx.first (numel1_S1.symm ▸ Nat.one_pos)) = word1 sw := rfl

abbrev full : Rect S1x256x256 := Rect.unit (s := S1x256x256) ![0, 0, 0] S1x256x256.size inb_S1x256x256_S1x256x256_0_0_0

omit [FloatOps F] in
theorem zeros : (![0, 0, 0] : Fin 3 → Nat) = fun _ => 0 := funext fun a => by fin_cases a <;> rfl
omit [FloatOps F] in
theorem read_block (f : (cc0_scratch0 : Ref sig .tc).ty.Contents (Elt F)) : xV.view.readAt (Elt F) full.toLoadRect f = f :=
  Memref.readAt_unit_zero (Elt F) cc0_scratch0 zeros _ f
omit [FloatOps F] in
theorem write_block (f w : (cc0_scratch1 : Ref sig .tc).ty.Contents (Elt F)) :
    (cV.access full : View sig .tc _ _ _).write (Elt F) f w Finset.univ = w :=
  Memref.write_access_unit_zero_univ (Elt F) cc0_scratch1 zeros _ f w
/-- The value stored is the value loaded. -/
theorem pay_eq (v : Vec F S1x256x256 .bf16) : k0_pay1 v = v := shapeCast_self _ _

/-! ## What the body starts from and leaves -/

section Body

variable (K : Dev nD × Fin 3 → ℕ) (c : Dev nD)

/-- The invariants the body opens: its own three meeting semaphores' and its neighbour's barrier and receive. -/
def invs : sProp 𝕄 :=
  iprop(cellInv ER (plan sw m) (K (c, 0)) (barCell c) ∗ cellInv ER (plan sw m) (K (c, 1)) (sendCell c) ∗ cellInv ER (plan sw m) (K (c, 2)) (recvCell c)
    ∗ cellInv ER (plan sw m) (K (nbr c, 0)) (barCell (nbr c)) ∗ cellInv ER (plan sw m) (K (nbr c, 2)) (recvCell (nbr c)))

instance invs_persistent : BI.Persistent (invs (F := F) sw m K c) := by unfold invs; infer_instance

/-- What a device has of the meeting semaphores at the start: the invariants, its positions, the first rounds begun, and
    the right to raise its neighbour's barrier, to credit its neighbour's receive semaphore and its own send semaphore. -/
def ghost : sProp 𝕄 :=
  iprop(invs sw m K c
    ∗ atPos ER (barCell c) 0 ∅ 0 ∗ atPos ER (sendCell c) 0 ∅ 0 ∗ atPos ER (recvCell c) 0 ∅ 0
    ∗ reached ER (barCell (nbr c)) 0 ∗ reached ER (recvCell (nbr c)) 0 ∗ reached ER (sendCell c) 0 ∗ reached ER (recvCell c) 0
    ∗ dutyTok ER (barCell (nbr c)) 0 () ∗ dutyTok ER (recvCell (nbr c)) 0 () ∗ dutyTok ER (sendCell c) 0 ())

/-- The three scratch buffers, at whatever contents. -/
def scratch : sProp 𝕄 :=
  iprop((∃ f, holds (F := F) c cc0_scratch0 f) ∗ (∃ f, holds (F := F) c cc0_scratch1 f) ∗ (∃ f, holds (F := F) c cc0_scratch2 f))

/-- The arrays a device starts with, at their launch contents. -/
def arrays : sProp 𝕄 :=
  iprop(holds c main_arg0 (m ((c : Thread nD τ).loc main_arg0)) ∗ holds c main_arg1 (m ((c : Thread nD τ).loc main_arg1))
    ∗ holds c main_v1 (m ((c : Thread nD τ).loc main_v1)))
/-- and those it ends with: the arguments as they were, the result at its block. -/
def arraysEnd : sProp 𝕄 :=
  iprop(holds c main_arg0 (m ((c : Thread nD τ).loc main_arg0)) ∗ holds c main_arg1 (m ((c : Thread nD τ).loc main_arg1))
    ∗ holds c main_v1 (outAt sw m c))

/-- Every semaphore of the device at zero. -/
def zero : sProp 𝕄 :=
  iprop(semVal (barCell c) 0 ∗ semVal ((c : Thread nD τ), .dma copy0) 0 ∗ semVal ((c : Thread nD τ), .dma copy1) 0
    ∗ semVal (sendCell c) 0 ∗ semVal (recvCell c) 0)

/-- What the launch gives a device before its body. -/
def start : sProp 𝕄 :=
  iprop((∃ K, ghost sw m K c) ∗ cred (tallyAt (barCell c) () 1) ∗ cred (tallyAt (recvCell c) () (due sw)) ∗ levAts L lv
    ∗ semVal ((c : Thread nD τ), .dma copy0) 0 ∗ semVal ((c : Thread nD τ), .dma copy1) 0 ∗ arrays m c)
/-- What the body leaves. -/
def finish : sProp 𝕄 := iprop(arraysEnd sw m c ∗ zero c ∗ scratch c)

/-- Whether the second branch, the local copy of the block, is taken: not when the rows swap, and when they stay. -/
def stays (c : Dev nD) (a b : BitVec 32) : BitVec 1 :=
  let y : BitVec 32 := Scalar.remsi (Scalar.divsi (Dev.word c) 4#32) 2#32
  Scalar.cmpi .ne (Scalar.extui (Scalar.xori (Scalar.cmpi .ne (Scalar.select (Scalar.cmpi .eq y 0#32) a b) y) 1#1) : BitVec 32) 0#32
theorem stays_swap (c : Dev nD) : stays c 1#32 0#32 = 0#1 := by revert c; decide +kernel
theorem stays_keep (c : Dev nD) : stays c 0#32 1#32 = 1#1 := by revert c; decide +kernel

/-- The side condition the body assumes of the two words holds: the target, when there is one, is a device. -/
theorem target_ok (sw : Bool) (c : Dev nD) : k0_chk1 c (word0 sw) (word1 sw) := fun h => by
  cases sw
  · exact absurd h (by show ¬ k0_cond1 c 0#32 1#32 = 1#1; rw [cond_keep]; decide)
  · show k0_dev2 c 1#32 0#32 < nD
    rw [dev2_val]; exact (nbr c).isLt

/-- What is owed past the signal when the rows swap: a block. -/
theorem O₁_swap (c : Dev nD) : O₁ true c = tallyAt (recvCell (nbr c)) () N := by unfold O₁ due; rw [if_pos rfl]

/-- The transfer of the block into the neighbour's result array, at the meeting semaphores; the target is `n = nbr c`. -/
theorem wp_send_block (n : Dev nD) (hn : n = nbr c) {hsc : oM.view.ref.isScScratch = false}
    {hsrc : cV.view.WordExact} {hdst : oM.view.WordExact}
    {hsem : DmaTarget.Typed .vmem (.dma recvS) (.remote (Dev.tc n : Thread nD τ) oM (.dma sendS) hsc)}
    {α : Type} {Q : α → sProp 𝕄} {k : PUnit → Prog (TpuEff nD τ sig (Elt F) Λ₀ .tc) α}
    (fn : Buf (Elt F) ((nbr c : Thread nD τ).loc main_v1)) (W : Waits sig Unit) :
    iprop(cellInv ER (plan true m) (K (c, 1)) (sendCell c) ∗ cellInv ER (plan true m) (K (nbr c, 2)) (recvCell (nbr c))
        ∗ holds (F := F) c cc0_scratch1 (xAt m c) ∗ holds (nbr c) main_v1 fn
        ∗ owes (c : Thread nD τ) (O₁ true c) W
        ∗ dutyTok ER (sendCell c) 0 () ∗ reached ER (sendCell c) 0
        ∗ dutyTok ER (recvCell (nbr c)) 0 () ∗ reached ER (recvCell (nbr c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cV (.remote (Dev.tc n : Thread nD τ) oM (.dma sendS) hsc) (.dma recvS) hsrc hdst hsem) k) Q) := by
  subst hn
  have h₁ : (cV.view.loc (c : Thread nD τ) ↦[cV.view.set]{fullShare} (xAt m c : Buf (Elt F) (cV.view.loc (c : Thread nD τ))) : sProp 𝕄)
      = holds (F := F) c cc0_scratch1 (xAt m c) := by rw [View.set_whole]
  have h₂ (f : Buf (Elt F) ((nbr c : Thread nD τ).loc main_v1)) :
      (oM.view.loc (nbr c : Thread nD τ) ↦[oM.view.set]{fullShare} f : sProp 𝕄) = holds (nbr c) main_v1 f := by rw [View.set_whole]
  have h := Rounds.wp_send_pointsTo (defs := defs₀ (F := F)) 𝒱₀ ER (plan true m) (c : Thread nD τ) none (κ₁ := K (c, 1)) (κ₂ := K (nbr c, 2)) (Γ := PendingWaitsCtx.empty) (Es := Set.univ)
    (c' := (Dev.tc (nbr c) : Thread nD τ)) (src := cV) (dst := oM) (sS := .dma sendS) (sem := .dma recvS) (hsrc := hsrc) (hdst := hdst) (hsem := hsem)
    (q := fullShare) (fs := xAt m c) (r₁ := 0) (r₂ := 0) (d₁ := ()) (d₂ := ()) (fd := fn) (k := k) (Q := Q)
    (by rw [duties_send]; exact Finset.mem_singleton_self _) (by rw [duties_recv]; exact Finset.mem_singleton_self _)
    () () N rfl (amount_send true m c ()) (amount_recv true m (nbr c) ()) 0 (O₀ := O₁ true c) (by rw [zero_add, O₁_swap]) (W := W)
    (by rw [payload_send]; unfold sendPay; exact Entails.of_eq h₁)
    (by rw [payload_recv, h₂]; unfold recvPay; rw [nbr_nbr, View.write_whole_univ, View.read_whole])
  rw [h₁, h₂] at h
  exact h

/-- and when they stay, nothing. -/
theorem O₁_keep (c : Dev nD) : O₁ false c = 0 := by unfold O₁ due; rw [if_neg Bool.false_ne_true, tallyAt_zero]

omit [FloatOps F] in
/-- The pieces of what the body leaves. -/
theorem finish_intro (hT : Tables sw m) :
    iprop(holds c main_arg0 (xAt m c) ∗ holds c main_arg1 (table sw) ∗ holds c main_v1 (outAt sw m c) ∗ zero (F := F) c
        ∗ (∃ f, holds (F := F) c cc0_scratch0 f) ∗ (∃ f, holds (F := F) c cc0_scratch1 f) ∗ (∃ f, holds (F := F) c cc0_scratch2 f))
      ⊢ finish sw m c := by
  unfold finish arraysEnd scratch
  rw [hT c]
  iintro ⟨Hx, Hpi, Ho, Hz, Hs⟩
  isplitl [Hx Hpi Ho]
  · isplitl [Hx]; · iexact Hx
    isplitl [Hpi] <;> iassumption
  isplitl [Hz] <;> iassumption

set_option maxHeartbeats 1600000 in
/-- The body, run effect by effect from what the launch gives to what it leaves. -/
theorem sound_body (hT : Tables sw m) (W : Waits sig Unit) (Kt : PUnit → sProp 𝕄) :
    iprop((ghost sw m K c ∗ cred (tallyAt (barCell c) () 1) ∗ cred (tallyAt (recvCell c) () (due sw)) ∗ levAts L lv
        ∗ semVal ((c : Thread nD τ), .dma copy0) 0 ∗ semVal ((c : Thread nD τ), .dma copy1) 0 ∗ arrays m c ∗ scratch c
        ∗ owes (c : Thread nD τ) (O₀ sw c) W)
      ∗ (∀ W', (finish sw m c ∗ owes (c : Thread nD τ) 0 W') -∗ Kt ⟨⟩))
      ⊢ wp frame (wpE (defs₀ (F := F)) 𝒱₀ (c : Thread nD τ) none) Set.univ
          (cc0_body piM (Memref.isWhole_whole _) xM (Memref.isWhole_whole _) oM (Memref.isWhole_whole _) xV (Memref.isWhole_whole _)
            cV (Memref.isWhole_whole _) pS (Memref.isWhole_whole _) cc0_scratch3 cc0_scratch4 cc0_scratch5) Kt := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, wp_deviceId]
  unfold ghost invs arrays scratch
  iintro ⟨⟨⟨⟨#HIbar, #HIsnd, #HIrcv, #HIbarN, #HIrcvN⟩, HatB, HatS, HatV, #HrBN, #HrVN, #HrS, #HrV, HtBN, HtVN, HtS⟩,
    HcB, HcV, #Hlev, Hz0, Hz1, ⟨Hx, Hpi, Hout⟩, ⟨⟨%f0, Hs0⟩, ⟨%f1, Hs1⟩, ⟨%f2, Hs2⟩⟩, HO⟩, Hk⟩
  -- the table into scalar memory and the block into vector memory, both under way
  iapply (wp_dmaLocal EC 𝒱₀ (c : Thread nD τ) none (src := piM) (dst := pS) (q := fullShare) (Sd := Finset.univ) (fs := m ((c : Thread nD τ).loc main_arg1)) (fd := f2)
    () pS.view.dmaCredit rfl (View.dmaCredit_pos _ (by decide)) (Finset.subset_univ _)) $$ [Hpi Hs2 Hz0]
  · isplitl [Hpi]; · rw [View.set_whole]; iexact Hpi
    isplitl [Hs2]; · iexact Hs2
    iexact Hz0
  iintro Hfl0
  iapply (wp_dmaLocal EC 𝒱₀ (c : Thread nD τ) none (src := xM) (dst := xV) (q := fullShare) (Sd := Finset.univ) (fs := m ((c : Thread nD τ).loc main_arg0)) (fd := f0)
    () xV.view.dmaCredit rfl (View.dmaCredit_pos _ (by decide)) (Finset.subset_univ _)) $$ [Hx Hs0 Hz1]
  · isplitl [Hx]; · rw [View.set_whole]; iexact Hx
    isplitl [Hs0]; · iexact Hs0
    iexact Hz1
  iintro Hfl1
  rw [hT c]
  rw [dev1_eq c]
  unfold O₀
  -- the signal to the neighbour's barrier, handing over the result array if it is going to be written into
  ihave Hgive : iprop(barPay (F := F) sw (nbr c) ∗ (if sw then iprop(emp) else holds c main_v1 (m ((c : Thread nD τ).loc main_v1)))) $$ [Hout]
  · unfold barPay; rw [nbr_nbr]
    cases sw
    · simp only [Bool.false_eq_true, if_false]
      isplitr; · iempintro
      iexact Hout
    · simp only [if_true]
      isplitl; swap; · iempintro
      isplitl [Hout]; · iexists _; iexact Hout
      iexact HrV
  icases Hgive with ⟨Hgive, Hkeep⟩
  iapply (Rounds.wp_signal 𝒱₀ ER (plan sw m) (c : Thread nD τ) none (dst := (nbr c : Thread nD τ)) (κ := K (nbr c, 0))
      (d := ()) (by rw [duties_bar]; exact Finset.mem_univ _) ((amount_bar sw m (nbr c) ()).trans (by decide)) () (O₁ sw c) rfl)
    $$ [HO HtBN Hgive]
  · isplitr; · iexact HIbarN
    isplitl [HO]; · iexact HO
    isplitl [HtBN]; · iexact HtBN
    isplitl [Hgive]; · rw [payload_bar]; iexact Hgive
    iexact HrBN
  iintro HO
  -- the wait for the neighbour's signal
  iapply (Rounds.wp_wait_rest_token 𝒱₀ ER (plan sw m) (c : Thread nD τ) none (κ := K (c, 0))
      (wpE_semWait_eq 𝒱₀ (c : Thread nD τ) none Set.univ) (Set.mem_univ _) () (O := O₁ sw c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_below sw c _ 1 (by decide) (lv_bar c)); iexact Hlev
    iexact HatB
  iintro ⟨HO, HatB, -, Hpay⟩
  ihave Hp := (Entails.of_eq (rest_bar sw m c)) $$ Hpay
  -- the two copies over
  iapply (wait_copy c) $$ [Hfl0 HO]
  · isplitl [Hfl0]; · iexact Hfl0
    isplitl [HO]; · iexact HO
    iapply (mayWait_below sw c _ 0 (by decide) (lv_dma c _ copy0_ne_recv)); iexact Hlev
  iintro ⟨⟨Hs2, Hpi⟩, Hz0, HO⟩
  iapply (wait_copy c) $$ [Hfl1 HO]
  · isplitl [Hfl1]; · iexact Hfl1
    isplitl [HO]; · iexact HO
    iapply (mayWait_below sw c _ 0 (by decide) (lv_dma c _ copy1_ne_recv)); iexact Hlev
  iintro ⟨⟨Hs0, Hx⟩, Hz1, HO⟩

  ihave Hs2 : (holds (F := F) c cc0_scratch2 (table sw)) $$ [Hs2]
  · rw [View.write_whole_univ]; iexact Hs2
  ihave Hs0 : (holds (F := F) c cc0_scratch0 (xAt m c)) $$ [Hs0]
  · rw [View.write_whole_univ]; iexact Hs0
  ihave Hpi : (holds c main_arg1 (table sw)) $$ [Hpi]
  · rw [View.set_whole]; iexact Hpi
  ihave Hx : (holds c main_arg0 (xAt m c)) $$ [Hx]
  · rw [View.set_whole]; iexact Hx
  -- the table's two words
  iapply (wp_load_rect 𝒱₀ (c : Thread nD τ) none Set.univ (m := pS) (r := Rect.unit (s := S2) ![0] S1.size inb_S2_S1_0)
    (S := Finset.univ) (q := fullShare) (f := table sw) (Finset.subset_univ _)) $$ Hs2; iintro Hs2
  rw [read_word0]
  iapply (wp_load_rect 𝒱₀ (c : Thread nD τ) none Set.univ (m := pS) (r := Rect.unit (s := S2) ![1] S1.size inb_S2_S1_1)
    (S := Finset.univ) (q := fullShare) (f := table sw) (Finset.subset_univ _)) $$ Hs2; iintro Hs2
  rw [read_word1]
  iapply (wp_assume 𝒱₀ (c : Thread nD τ) none Set.univ (target_ok sw c))
  -- the block from one vector buffer to the other
  iapply (wp_load 𝒱₀ (c : Thread nD τ) none Set.univ (m := xV) (r := full.toLoadRect) (S := Finset.univ) (q := fullShare) (f := xAt m c) (Finset.subset_univ _)) $$ Hs0; iintro Hs0
  rw [read_block, pay_eq]
  iapply (wp_load 𝒱₀ (c : Thread nD τ) none Set.univ (m := cV) (r := full.toLoadRect) (S := Finset.univ) (q := fullShare) (f := f1) (Finset.subset_univ _)) $$ Hs1; iintro Hs1
  iapply (wp_store 𝒱₀ (c : Thread nD τ) none Set.univ (m := cV) (r := full) (Mk := Finset.univ) (S := Finset.univ) (f := f1) (Finset.subset_univ _)) $$ Hs1; iintro Hs1
  rw [write_block]
  imod (Rounds.cell_close ER (plan sw m) (Set.mem_univ (K (c, 0))) (fun h => h) (R := 0 + 1) (duties_later sw m (barCell c))) $$ [HatB] with HzB
  · isplitr; · iexact HIbar
    iexact HatB
  have hst : stays c (word0 sw) (word1 sw) = if sw then 0#1 else 1#1 := by
    cases sw
    · exact stays_keep c
    · exact stays_swap c
  dsimp only [stays] at hst
  rw [hst]
  cases sw
  · -- the rows stay: the block into the device's own result array
    simp only [Bool.false_eq_true, if_false, if_true]
    rw [dif_neg (show ¬ k0_cond1 c (word0 false) (word1 false) = 1#1 by
      show ¬ k0_cond1 c 0#32 1#32 = 1#1; rw [cond_keep]; decide)]
    iapply (wp_dmaLocal EC 𝒱₀ (c : Thread nD τ) none (src := cV) (dst := oM) (q := fullShare) (Sd := Finset.univ) (fs := xAt m c)
      (fd := m ((c : Thread nD τ).loc main_v1)) () oM.view.dmaCredit rfl (View.dmaCredit_pos _ (by decide)) (Finset.subset_univ _)) $$ [Hs1 Hkeep Hz1]
    · isplitl [Hs1]; · rw [View.set_whole]; iexact Hs1
      isplitl [Hkeep]; · iexact Hkeep
      iexact Hz1
    iintro Hfl
    iapply (wait_copy c) $$ [Hfl HO]
    · isplitl [Hfl]; · iexact Hfl
      isplitl [HO]; · iexact HO
      iapply (mayWait_below false c _ 0 (by decide) (lv_dma c _ copy1_ne_recv)); iexact Hlev
    iintro ⟨⟨Hout, Hs1⟩, Hz1, HO⟩
    rw [O₁_keep]
    ihave Hout : (holds c main_v1 (xAt m c)) $$ [Hout]
    · rw [View.write_whole_univ]; iexact Hout
    ihave Hs1 : (holds (F := F) c cc0_scratch1 (xAt m c)) $$ [Hs1]
    · rw [View.set_whole]; iexact Hs1
    imod (Rounds.cell_close ER (plan false m) (Set.mem_univ (K (c, 1))) (fun h => h) (R := 0) (duties_keep m c sendS)) $$ [HatS] with HzS
    · isplitr; · iexact HIsnd
      iexact HatS
    imod (Rounds.cell_close ER (plan false m) (Set.mem_univ (K (c, 2))) (fun h => h) (R := 0) (duties_keep m c recvS)) $$ [HatV] with HzV
    · isplitr; · iexact HIrcv
      iexact HatV
    rw [wp_ret]; imodintro
    iapply Hk
    isplitr [HO]; swap; · iexact HO
    iapply (finish_intro false m c hT)
    unfold outAt zero
    rw [if_neg Bool.false_ne_true]
    isplitl [Hx]; · iexact Hx
    isplitl [Hpi]; · iexact Hpi
    isplitl [Hout]; · iexact Hout
    isplitl [HzB Hz0 Hz1 HzS HzV]
    · isplitl [HzB]; · iexact HzB
      isplitl [Hz0]; · iexact Hz0
      isplitl [Hz1]; · iexact Hz1
      isplitl [HzS] <;> iassumption
    isplitl [Hs0]; · iexists _; iexact Hs0
    isplitl [Hs1]; · iexists _; iexact Hs1
    iexists _; iexact Hs2
  · -- the rows swap: the block into the neighbour's result array, and the neighbour's into the device's own
    simp only [if_true]
    rw [dif_pos (show k0_cond1 c (word0 true) (word1 true) = 1#1 from cond_swap c)]
    unfold barPay
    simp only [if_true, if_neg (show ¬ (0#1 : BitVec 1) = 1#1 by decide)]
    icases Hp with ⟨⟨%fn, HoutN⟩, #HrVN'⟩
    iapply (wp_send_block m K c _ (Fin.ext (dev2_val c)) fn _) $$ [Hs1 HoutN HO HtS HtVN]
    · isplitr; · iexact HIsnd
      isplitr; · iexact HIrcvN
      isplitl [Hs1]; · iexact Hs1
      isplitl [HoutN]; · iexact HoutN
      isplitl [HO]; · iexact HO
      isplitl [HtS]; · iexact HtS
      isplitr; · iexact HrS
      isplitl [HtVN]; · iexact HtVN
      iexact HrVN
    iintro ⟨HcS, HO⟩
    iapply (Rounds.wp_wait_rest_token 𝒱₀ ER (plan true m) (c : Thread nD τ) none (κ := K (c, 1))
        (wpE_waitDma2_eq 𝒱₀ (c : Thread nD τ) none Set.univ) (Set.mem_univ _) () (O := 0) (R := 0) (m := 0) (T := ∅)
        (by rw [Nat.zero_add, expect_send])) $$ [HcS HO HatS]
    · isplitr; · iexact HIsnd
      isplitl [HcS]; · iexact HcS
      isplitl [HO]; · iexact HO
      isplitr; · rw [MayWait_zero]; iempintro
      iexact HatS
    iintro ⟨HO, HatS, -, Hpay⟩
    ihave Hs1 := (Entails.of_eq (rest_send m c)) $$ Hpay
    iapply (Rounds.wp_wait_rest_token 𝒱₀ ER (plan true m) (c : Thread nD τ) none (κ := K (c, 2))
        (wpE_waitDma2_eq 𝒱₀ (c : Thread nD τ) none Set.univ) (Set.mem_univ _) () (O := 0) (R := 0) (m := 0) (T := ∅)
        (by rw [Nat.zero_add, expect_recv])) $$ [HcV HO HatV]
    · isplitr; · iexact HIrcv
      isplitl [HcV]; · iexact HcV
      isplitl [HO]; · iexact HO
      isplitr; · rw [MayWait_zero]; iempintro
      iexact HatV
    iintro ⟨HO, HatV, -, Hpay⟩
    ihave Hout := (Entails.of_eq (rest_recv m c)) $$ Hpay
    unfold recvPay sendPay
    imod (Rounds.cell_close ER (plan true m) (Set.mem_univ (K (c, 1))) (fun h => h) (R := 0 + 1) (duties_later true m (sendCell c))) $$ [HatS] with HzS
    · isplitr; · iexact HIsnd
      iexact HatS
    imod (Rounds.cell_close ER (plan true m) (Set.mem_univ (K (c, 2))) (fun h => h) (R := 0 + 1) (duties_later true m (recvCell c))) $$ [HatV] with HzV
    · isplitr; · iexact HIrcv
      iexact HatV
    rw [wp_ret]; imodintro
    iapply Hk
    isplitr [HO]; swap; · iexact HO
    iapply (finish_intro true m c hT)
    unfold outAt zero
    rw [if_pos rfl]
    isplitl [Hx]; · iexact Hx
    isplitl [Hpi]; · iexact Hpi
    isplitl [Hout]; · iexact Hout
    isplitl [HzB Hz0 Hz1 HzS HzV]
    · isplitl [HzB]; · iexact HzB
      isplitl [Hz0]; · iexact Hz0
      isplitl [Hz1]; · iexact Hz1
      isplitl [HzS] <;> iassumption
    isplitl [Hs0]; · iexists _; iexact Hs0
    isplitl [Hs1]; · iexists _; iexact Hs1
    iexists _; iexact Hs2

end Body

end Cert.RowSwap

end
-- ==== Proof.Run.lean ====
/-
# Run: the launch of the sixteen kernels, and what every run ends in
-/
module

public import proofs.«01_k».proof.Proof.Body
public import Idealize.ShloMosaic.Lib.Pipeline.CollectiveSegs

@[expose] public section

noncomputable section

namespace Cert.RowSwap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers

variable {F : FTy → Type} [FloatOps F]

local notation "𝕄" => MT nD τ sig Unit (Elt F) ℕ UU ℕ

variable (sw : Bool) (m : (ℓ : Loc nD τ sig) → Buf (Elt F) ℓ) (ρ : Dev nD → PrngReg)

/-! ## The body as the region takes it -/

/-- The region's data: no windows; before its one point what the launch gives, after it what the body leaves. -/
def dats (_ : Fin 1) (c : Dev nD) : Dat τ (Elt F) Unit ℕ UU ℕ cfg0 c where
  A w := w.elim0
  after w _ := w.elim0
  Φ t := match t with
    | ⟨0, _⟩ => iprop(start sw m c ∗ scratch c)
    | ⟨_ + 1, _⟩ => finish sw m c
  q _ := fullShare
  owed t := match t with
    | ⟨0, _⟩ => O₀ sw c
    | ⟨_ + 1, _⟩ => 0

theorem body_obligation (hT : Tables sw m) (c : Dev nD) : BodyObligation (dats (F := F) sw m 0 c) (defs₀ (F := F)) 𝒱₀ () Set.univ := fun t => by
  rw [fin_N0 t]
  have hW (Φ : Fin cfg0.W → sProp 𝕄) : bigSep Finset.univ Φ = iprop(emp) := bigSep_univ_eq_bigSepL [] (by decide) (by decide) Φ
  rw [hW, hW]
  rw [show (defs₀ (F := F)) Proc.tc cfg0.body (cfg0.bodyArgs t0_0 (cfg0.slots t0_0))
    = cc0_body piM (Memref.isWhole_whole _) xM (Memref.isWhole_whole _) oM (Memref.isWhole_whole _) xV (Memref.isWhole_whole _)
        cV (Memref.isWhole_whole _) pS (Memref.isWhole_whole _) cc0_scratch3 cc0_scratch4 cc0_scratch5 from rfl,
    show (dats (F := F) sw m 0 c).Φ t0_0.castSucc = iprop(start sw m c ∗ scratch c) from rfl,
    show (dats (F := F) sw m 0 c).Φ t0_0.succ = finish sw m c from rfl]
  unfold start Dat.owesAt Pipeline.owesWithin
  rw [show (dats sw m 0 c).owed t0_0.castSucc = O₀ sw c from rfl, show (dats sw m 0 c).owed t0_0.succ = 0 from rfl]
  iintro ⟨⟨⟨⟨%K, Hg⟩, HcB, HcV, Hlev, Hz0, Hz1, Harr⟩, Hscr⟩, ⟨%W, %hW', HO⟩, -⟩
  iapply (sound_body sw m K c hT W)
  isplitr []
  · isplitl [Hg]; · iexact Hg
    isplitl [HcB]; · iexact HcB
    isplitl [HcV]; · iexact HcV
    isplitl [Hlev]; · iexact Hlev
    isplitl [Hz0]; · iexact Hz0
    isplitl [Hz1]; · iexact Hz1
    isplitl [Harr]; · iexact Harr
    isplitl [Hscr] <;> iassumption
  iintro %W' ⟨Hf, HO⟩
  isplitl [Hf]; · iexact Hf
  isplitl [HO]
  · iexists W'
    isplitr; · ipureintro; exact fun _ _ => Or.inl trivial
    iexact HO
  iempintro

/-! ## The launch -/

theorem ownSemFacts : Pipeline.OwnSemFacts cfg0.spec osem := by decide

theorem kcell_injective : Function.Injective (kcell : Dev nD × Fin 3 → GSem nD τ sig) := by
  rintro ⟨c, k⟩ ⟨c', k'⟩ h
  have h1 : c = c' := congrArg (fun g : GSem nD τ sig => g.1.1) h
  have h2 : csem k = csem k' := congrArg Prod.snd h
  subst h1
  fin_cases k <;> fin_cases k' <;> first | rfl | exact absurd h2 (by decide)
/-- The semaphores devices meet on, all devices'; -/
def meetCells : Finset (GSem nD τ sig) := Finset.univ.map ⟨kcell, kcell_injective⟩

abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
/-- and one right to raise each. -/
def meetToks : Finset (GSem nD τ sig × ℕ × Unit) := Finset.univ.map ⟨tokOf, tokOf_injective⟩

def u₀ : UU :=
  (initOf (Pipeline.cells cfgs cellOf_inj) (Pipeline.launchToks cfgs cellOf_inj), (initOf meetCells meetToks, 1))

/-- What the launch element deals a device: its three meeting semaphores' states, positions, first rounds and rights. -/
def G (c : Dev nD) : sProp 𝕄 :=
  iprop((bigSep Finset.univ fun k : Fin 3 => roundState ER (plan sw m) (kcell (c, k)) 0)
    ∗ (bigSep Finset.univ fun k : Fin 3 => iprop(atPos ER (kcell (c, k)) 0 ∅ 0 ∗ reached ER (kcell (c, k)) 0))
    ∗ bigSep Finset.univ fun k : Fin 3 => dutyTok ER (kcell (c, k)) 0 ())

/-- What the exchange between the devices makes of it: everything the body starts from but credits and arrays. -/
def G' (c : Dev nD) : sProp 𝕄 :=
  iprop((∃ K, ghost sw m K c) ∗ semVal ((c : Thread nD τ), .dma copy0) 0 ∗ semVal ((c : Thread nD τ), .dma copy1) 0)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The launch element, split over the devices. -/
theorem fund_meet : BI.own (ER (initOf meetCells meetToks)) ⊢ (|==> bigSep Finset.univ (G sw m) : sProp 𝕄) := by
  have hX (Φ : GSem nD τ sig → sProp 𝕄) : bigSep meetCells Φ = bigSep Finset.univ fun c : Dev nD => bigSep Finset.univ fun k : Fin 3 => Φ (kcell (c, k)) := by
    unfold meetCells; rw [bigSep_map, bigSep_univ_prod]; rfl
  have hT : bigSep meetToks (fun x => (dutyTok ER x.1 x.2.1 x.2.2 : sProp 𝕄))
      = bigSep Finset.univ fun c : Dev nD => bigSep Finset.univ fun k : Fin 3 => dutyTok ER (kcell (c, k)) 0 () := by
    unfold meetToks; rw [bigSep_map, bigSep_univ_prod]; rfl
  iintro H
  imod (Rounds.fund ER (plan sw m) meetCells meetToks) $$ H with ⟨Hst, Hr, Hat, Htok⟩
  imodintro
  ihave Hst := (Entails.of_eq (hX fun g => roundState ER (plan sw m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), .dma copy0) 0 ∗ semVal ((c : Thread nD τ), .dma copy1) 0 ∗ semVal (sendCell c) 0 ∗ semVal (recvCell c) 0) := by
  rw [Pipeline.ownSems0_eq_of_list c osem [0, 1, 2, 3] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- On one device: the meeting semaphores' invariants are made; the copies' semaphores stay the device's. -/
theorem core_alloc (c : Dev nD) :
    iprop(Pipeline.ownSems0 (Ix := Unit) (Name := ℕ) (U := UU) (Lvl := ℕ) (Val := Elt F) (τ := τ) osem c ∗ unscopedSems0 c ∗ G sw m c)
      ⊢ |={Set.univ}=> iprop((bigSep Finset.univ fun k => iprop(∃ κ : ℕ, cellInv ER (plan sw m) κ (kcell (c, k))))
          ∗ (bigSep Finset.univ fun k => iprop(atPos ER (kcell (c, k)) 0 ∅ 0 ∗ reached ER (kcell (c, k)) 0))
          ∗ (bigSep Finset.univ fun k : Fin 3 => dutyTok ER (kcell (c, k)) 0 ())
          ∗ semVal ((c : Thread nD τ), .dma copy0) 0 ∗ semVal ((c : Thread nD τ), .dma copy1) 0) := by
  unfold G
  rw [ownSems0_eq, unscopedSems0_eq]
  iintro ⟨⟨H0, H1, HS, HV⟩, HB, Hst, Hat, Htok⟩
  imod (show iprop((bigSep Finset.univ fun k : Fin 3 => semVal (kcell (c, k)) 0) ∗ bigSep Finset.univ fun k : Fin 3 => roundState ER (plan sw m) (kcell (c, k)) 0)
      ⊢ (|={Set.univ}=> bigSep Finset.univ fun k => iprop(∃ κ : ℕ, cellInv ER (plan sw m) κ (kcell (c, k))) : sProp 𝕄) from by
        rw [← bigSep_sep']
        exact (bigSep_mono fun k _ => (Rounds.body_intro ER (plan sw m) (kcell (c, k))).trans inv_alloc).trans (bigSep_fupd _ _)) $$ [HB HS HV Hst] with Hinv
  · isplitl [HB HS HV]
    · rw [bigSep_three]
      isplitl [HB]; · iexact HB
      isplitl [HS] <;> iassumption
    iexact Hst
  imodintro
  isplitl [Hinv]; · iexact Hinv
  isplitl [Hat]; · iexact Hat
  isplitl [Htok]; · iexact Htok
  isplitl [H0] <;> iassumption

/-- Every device's invariants and begun rounds, together. -/
def records (K : Dev nD × Fin 3 → ℕ) : sProp 𝕄 :=
  iprop((bigSep Finset.univ fun ck : Dev nD × Fin 3 => cellInv ER (plan sw m) (K ck) (kcell ck))
    ∗ bigSep Finset.univ fun ck : Dev nD × Fin 3 => reached ER (kcell ck) 0)

instance records_persistent (K : Dev nD × Fin 3 → ℕ) : BI.Persistent (records sw m K) := by unfold records; infer_instance

omit [FloatOps F] in
theorem inv_at (K : Dev nD × Fin 3 → ℕ) (ck : Dev nD × Fin 3) : records sw m K ⊢ cellInv ER (plan sw m) (K ck) (kcell ck) :=
  sep_elim_left.trans (bigSep_elim (Finset.mem_univ ck))
omit [FloatOps F] in
theorem reached_at (K : Dev nD × Fin 3 → ℕ) (ck : Dev nD × Fin 3) : records sw m K ⊢ reached ER (kcell ck) 0 :=
  sep_elim_right.trans (bigSep_elim (Finset.mem_univ ck))

/-- What is a device's alone: its positions, the rights to what it raises, and the copies' semaphores. -/
def alone (c : Dev nD) : sProp 𝕄 :=
  iprop((bigSep Finset.univ fun k : Fin 3 => atPos ER (kcell (c, k)) 0 ∅ 0)
    ∗ (dutyTok ER (barCell (nbr c)) 0 () ∗ dutyTok ER (sendCell c) 0 () ∗ dutyTok ER (recvCell (nbr c)) 0 ())
    ∗ semVal ((c : Thread nD τ), .dma copy0) 0 ∗ semVal ((c : Thread nD τ), .dma copy1) 0)

omit [FloatOps F] in
theorem ghost_intro (K : Dev nD × Fin 3 → ℕ) (c : Dev nD) : iprop(records sw m K ∗ alone c) ⊢ G' sw m c := by
  unfold alone G' ghost invs
  rw [bigSep_three]
  iintro ⟨#HR, ⟨HaB, HaS, HaV⟩, ⟨HtB, HtS, HtV⟩, Hz⟩
  isplitr [Hz]; swap; · iexact Hz
  iexists K
  isplitr
  · isplitr; · iapply (inv_at sw m K (c, 0)); iexact HR
    isplitr; · iapply (inv_at sw m K (c, 1)); iexact HR
    isplitr; · iapply (inv_at sw m K (c, 2)); iexact HR
    isplitr; · iapply (inv_at sw m K (nbr c, 0)); iexact HR
    iapply (inv_at sw m K (nbr c, 2)); iexact HR
  isplitl [HaB]; · iexact HaB
  isplitl [HaS]; · iexact HaS
  isplitl [HaV]; · iexact HaV
  isplitr; · iapply (reached_at sw m K (nbr c, 0)); iexact HR
  isplitr; · iapply (reached_at sw m K (nbr c, 2)); iexact HR
  isplitr; · iapply (reached_at sw m K (c, 1)); iexact HR
  isplitr; · iapply (reached_at sw m K (c, 2)); iexact HR
  isplitl [HtB]; · iexact HtB
  isplitl [HtV]; · iexact HtV
  iexact HtS

omit [FloatOps F] in
/-- The rights exchanged: a device gives its neighbour the right to its barrier and to its receive semaphore. -/
theorem toks_exchange : (bigSep Finset.univ fun c : Dev nD => bigSep Finset.univ fun k : Fin 3 => (dutyTok ER (kcell (c, k)) 0 () : sProp 𝕄))
    ⊢ bigSep Finset.univ fun c : Dev nD => iprop(dutyTok ER (barCell (nbr c)) 0 () ∗ dutyTok ER (sendCell c) 0 () ∗ dutyTok ER (recvCell (nbr c)) 0 ()) := by
  simp only [bigSep_three, bigSep_sep']
  rw [bigSep_univ_equiv flip (fun c : Dev nD => (dutyTok ER (kcell (c, 0)) 0 () : sProp 𝕄)),
    bigSep_univ_equiv flip (fun c : Dev nD => (dutyTok ER (kcell (c, 2)) 0 () : sProp 𝕄))]
  exact .rfl

omit [FloatOps F] in
theorem alone_parts :
    iprop((bigSep Finset.univ fun c : Dev nD => bigSep Finset.univ fun k : Fin 3 => (atPos ER (kcell (c, k)) 0 ∅ 0 : sProp 𝕄))
      ∗ (bigSep Finset.univ fun c : Dev nD => iprop(dutyTok ER (barCell (nbr c)) 0 () ∗ dutyTok ER (sendCell c) 0 () ∗ dutyTok ER (recvCell (nbr c)) 0 ()))
      ∗ (bigSep Finset.univ fun c : Dev nD => semVal ((c : Thread nD τ), .dma copy0) 0) ∗ bigSep Finset.univ fun c : Dev nD => semVal ((c : Thread nD τ), .dma copy1) 0)
      ⊢ bigSep Finset.univ fun c : Dev nD => alone (F := F) c := by
  unfold alone
  rw [← bigSep_sep', ← bigSep_sep', ← bigSep_sep']

omit [FloatOps F] in
theorem regroup :
    (bigSep Finset.univ fun c : Dev nD => iprop((bigSep Finset.univ fun k => iprop(∃ κ : ℕ, cellInv ER (plan sw m) κ (kcell (c, k))))
          ∗ (bigSep Finset.univ fun k => iprop(atPos ER (kcell (c, k)) 0 ∅ 0 ∗ reached ER (kcell (c, k)) 0))
          ∗ (bigSep Finset.univ fun k : Fin 3 => dutyTok ER (kcell (c, k)) 0 ())
          ∗ semVal ((c : Thread nD τ), .dma copy0) 0 ∗ semVal ((c : Thread nD τ), .dma copy1) 0) : sProp 𝕄)
      ⊢ bigSep Finset.univ (G' sw m) := by
  rw [bigSep_sep', bigSep_sep', bigSep_sep', bigSep_sep', ← bigSep_univ_prod (fun ck : Dev nD × Fin 3 => iprop(∃ κ : ℕ, cellInv ER (plan sw m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hz⟩
  ihave HK := (BI.bigSep_exists_pi Finset.univ (fun (ck : Dev nD × Fin 3) (κ : ℕ) => (cellInv ER (plan sw m) κ (kcell ck) : sProp 𝕄))) $$ HI
  icases HK with ⟨%K, #HI⟩
  ihave Htk := (toks_exchange (F := F)) $$ Htok
  iapply ((sep_mono_left (BI.bigSep_of_persistent Finset.univ (records sw m K))).trans (by
    rw [← bigSep_sep']; exact bigSep_mono fun c _ => ghost_intro sw m K c))
  isplitr
  · unfold records; isplitl; · iexact HI
    iexact HR
  iapply (alone_parts (F := F))
  isplitl [Hat]; · iexact Hat
  isplitl [Htk]; · iexact Htk
  iexact Hz

omit [FloatOps F] in
/-- The devices' semaphores and ghost state, exchanged all at once. -/
theorem exchange : (bigSep Finset.univ fun c => iprop(Pipeline.ownSems0 (Ix := Unit) (Name := ℕ) (U := UU) (Lvl := ℕ) (Val := Elt F) (τ := τ) osem c ∗ unscopedSems0 c ∗ G sw m c) : sProp 𝕄)
    ⊢ |={Set.univ}=> bigSep Finset.univ (G' sw m) :=
  ((bigSep_mono fun c _ => core_alloc sw m c).trans (bigSep_fupd _ _)).trans (BI.fupd_mono (regroup sw m))

/-! ### The credits -/

theorem nbr_eq_iff {a b : Dev nD} : Iff (nbr a = b) (a = nbr b) :=
  ⟨fun h => by rw [← h, nbr_nbr], fun h => by rw [h, nbr_nbr]⟩
theorem cell_eq_iff {a b : Dev nD} {q : SemLoc sig} : Iff (((a : Thread nD τ), q) = ((b : Thread nD τ), q)) (a = b) :=
  ⟨fun h => congrArg (fun g : GSem nD τ sig => g.1.1) h, fun h => h ▸ rfl⟩

/-- A device's barrier is owed one unit, by its neighbour; -/
theorem owed_bar (d c : Dev nD) : O₀ sw d (barCell c) () = if d = nbr c then 1 else 0 := by
  unfold O₀ O₁
  rw [Pi.add_apply, Finsupp.add_apply, tallyAt_ne_cell (fun h => recv_ne_bar (congrArg Prod.snd h).symm), tallyAt_apply, Finsupp.zero_apply, Nat.zero_add]
  refine if_congr ?_ rfl rfl
  rw [and_iff_left rfl, cell_eq_iff, eq_comm, nbr_eq_iff]
/-- its receive semaphore a block or nothing, also by its neighbour. -/
theorem owed_recv (d c : Dev nD) : O₀ sw d (recvCell c) () = if d = nbr c then due sw else 0 := by
  unfold O₀ O₁
  rw [Pi.add_apply, Finsupp.add_apply, tallyAt_apply, tallyAt_ne_cell (fun h => recv_ne_bar (congrArg Prod.snd h)), Finsupp.zero_apply, Nat.add_zero]
  refine if_congr ?_ rfl rfl
  rw [and_iff_left rfl, cell_eq_iff, eq_comm, nbr_eq_iff]

theorem launch_bar (c : Dev nD) :
    tallyOn (barCell c) (launchCredit (Pipeline.owing (O₀ sw)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar sw d c,
    Finset.sum_ite_eq' Finset.univ (nbr c) fun _ => 1, if_pos (Finset.mem_univ _)]
theorem launch_recv (c : Dev nD) :
    tallyOn (recvCell c) (launchCredit (Pipeline.owing (O₀ sw)) 0 (recvCell c)) = (tallyAt (recvCell c) () (due sw) : CellTallies nD τ sig Unit) := by
  unfold tallyAt; refine congrArg _ (Finsupp.ext fun u => ?_); cases u
  rw [Pipeline.launchCredit_owing, Finsupp.single_eq_same, Finset.sum_congr rfl fun d _ => owed_recv sw d c,
    Finset.sum_ite_eq' Finset.univ (nbr c) fun _ => due sw, if_pos (Finset.mem_univ _)]

omit [FloatOps F] in
theorem creds (c : Dev nD) :
    (Pipeline.launchCred (O₀ sw) c : sProp 𝕄) ⊢ iprop(cred (tallyAt (barCell c) () 1) ∗ cred (tallyAt (recvCell c) () (due sw))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### Entering and leaving the region -/

omit [FloatOps F] in
theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ G' sw m c)
      ⊢ |={Set.univ}=> iprop(start sw m c ∗ emp) := by
  rw [Pipeline.unscopedRestP_none, unscopedRest0_eq]
  iintro ⟨Harr, Hlev, Hcr, -, HG⟩
  ihave Hc := (creds (F := F) sw c) $$ Hcr
  icases Hc with ⟨H1, H2⟩
  imodintro
  unfold start G' arrays
  icases HG with ⟨HG, Hz0, Hz1⟩
  isplitl; swap; · iempintro
  isplitl [HG]; · iexact HG
  isplitl [H1]; · iexact H1
  isplitl [H2]; · iexact H2
  isplitl [Hlev]; · iexact Hlev
  isplitl [Hz0]; · iexact Hz0
  isplitl [Hz1]; · iexact Hz1
  iexact Harr

theorem phi_enter (c : Dev nD) :
    iprop(start sw m c ∗ Pipeline.prefHeld Pipeline.Prefetch.none c (fun _ => fullShare.right) (fun k => k.elim0) ∗ Pipeline.scopedRest cfg0.spec c)
      ⊢ (dats sw m 0 c).Φ 0 := by
  rw [show (dats sw m 0 c).Φ 0 = iprop(start sw m c ∗ scratch c) from rfl, scopedRest0_eq]
  unfold scratch
  iintro ⟨Hs, -, Hr⟩
  isplitl [Hs] <;> iassumption

theorem phi_leave (c : Dev nD) :
    (dats sw m 0 c).Φ (Fin.last cfg0.N)
      ⊢ iprop((unscopedSems0 c ∗ arraysEnd sw m c) ∗ Pipeline.ownSems0 osem c ∗ Pipeline.scopedRest cfg0.spec c) := by
  rw [show (dats sw m 0 c).Φ (Fin.last cfg0.N) = finish sw m c from rfl, scopedRest0_eq, ownSems0_eq, unscopedSems0_eq]
  unfold finish zero scratch
  iintro ⟨Ha, ⟨HB, Hz⟩, Hs⟩
  isplitl [Ha HB]
  · isplitl [HB] <;> iassumption
  isplitl [Hz] <;> iassumption

/-- What is read off a device at the end: its arguments as they were, its result the block named, its barrier at zero. -/
def Ends (c : Dev nD) (s : MemSt nD τ sig (Elt F)) : Prop :=
  (s.mem ((c : Thread nD τ).loc main_v1) = outAt sw m c
    ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c : Thread nD τ), sm) = 0

theorem ends_read (c : Dev nD) (s' : Phys nD τ sig (Elt F)) :
    iprop((unscopedSems0 c ∗ arraysEnd sw m c) ∗ emp ∗ SI s') ⊢ (|={Set.univ}=> iprop(⌜Ends sw m c s'.mem⌝ ∗ SI s') : sProp 𝕄) := by
  unfold arraysEnd
  iintro ⟨⟨Hu, H0, H1, Ho⟩, -, HSI⟩
  icombine HSI H0 gives %h0
  icombine HSI H1 gives %h1
  icombine HSI Ho gives %h2
  imod (Pipeline.unscopedSems0_read (X := unscopedSems0 c) (c := c) fupd_intro s') $$ [Hu HSI] with ⟨%h, HSI⟩
  · isplitl [Hu] <;> iassumption
  imodintro
  isplitr; swap; · iexact HSI
  ipureintro
  exact ⟨⟨funext fun i => h2 i (Finset.mem_univ i), funext fun i => h0 i (Finset.mem_univ i), funext fun i => h1 i (Finset.mem_univ i)⟩, h⟩

omit [FloatOps F] in
/-- The launch element is the library's own bookkeeping beside the devices' rounds. -/
theorem ownU_parts (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-! ### The run -/

set_option maxRecDepth 8000 in
set_option maxHeartbeats 2000000 in
/-- From any memory in which every device holds the table `sw` names, and every semaphore at zero: every weakly fair run of
    the sixteen kernels terminates, with each device's result its neighbour's block of `x` (rows swapped) or its own
    (rows kept), the arguments unchanged, and every semaphore at zero again. -/
theorem run_main (hT : Tables sw m) :
    θ_run defs (onTc (τ := τ) (main (F := F))) ⟨m, fun _ => 0, ρ⟩ (fun r =>
      (∀ c : Dev nD, r.2.mem ((c : Thread nD τ).loc main_v1) = outAt sw m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  Pipeline.θ_run_region_owing_glob_pf (fun p => (cfgs p).toPCfg) (fun p => (cfgs p).toPCfg_adm) (dats sw m) () cellOf_inj (0 : Fin 1)
    winFacts0.to₀ ownSemFacts (Pipeline.PreFacts.none _) EP defs₀ 𝒱₀ m ρ main
    (hmain := fun c => (main_chain c).trans rfl)
    (hbody := body_obligation sw m hT) (hne := fun w => w.elim0) (harr := arr_whole0) (hstage := stage_whole0) (hshare := fun _ w => w.elim0)
    (hdistinct := winFacts0.arr_inj)
    (O₀ := O₀ sw) (howed₀ := fun _ => rfl) (howedN := fun _ => rfl)
    (L := L) (lv := lv) (hL := L_of_ne)
    (hwaits := fun c => Pipeline.cellsWaits_intro cfgs (dats sw m) () 0 c fun w _ _ => w.elim0)
    (G := G sw m) (G' := G' sw m) (u₀ := u₀)
    (hu₀ := by
      unfold u₀
      iintro Hu
      ihave H := (ownU_parts (F := F) _ _) $$ Hu
      icases H with ⟨HP, HX⟩
      imod (fund_meet sw m) $$ HX with HG
      imodintro
      isplitl [HP] <;> iassumption)
    (hglob := exchange sw m)
    (hA := fun _ w => w.elim0) (hpf := fun _ k => k.elim0)
    (X := start sw m) (Y := fun c => iprop(unscopedSems0 c ∗ arraysEnd sw m c)) (Z := fun _ => iprop(emp))
    (hX := start_intro sw m ρ) (hin := phi_enter sw m) (hout := phi_leave sw m)
    (QY := Ends sw m) (hY := ends_read sw m)
    (hQ := fun _ h hs => ⟨fun c => (h c).2.2.1, sem_eq_zero hs fun c => (h c).2.2.2⟩)

end Cert.RowSwap

end
-- ==== Proof.lean ====
/-
# The claims, proved

The kernel's run is `RowSwap.run_main`, over any float carrier and either table: at the machine's floats it gives the
kernel's frames, at the extended reals the idealized kernel's frames and, with the reference's run and the equation
`RowSwap.block_rows` on the parts of an array, the value of the result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Reference
public import proofs.«01_k».proof.Proof.Run
public import proofs.«01_k».proof.Proof.Tables
public import proofs.«01_k».proof.Proof.Gen.Pre_swap_Kernel
public import proofs.«01_k».proof.Proof.Gen.Pre_keep_Kernel
public import proofs.«01_k».proof.Proof.Gen.Pre_swap_ReferenceIdeal
public import proofs.«01_k».proof.Proof.Gen.Pre_keep_ReferenceIdeal
public import Idealize.ShloMosaic.Adequacy
public import Idealize.ShloMosaic.Init

@[expose] public section

noncomputable section

namespace Cert.Proof

open Idealize.ShloMosaic Idealize.SL.Sem Cert.RowSwap

/-- The kernel's frame under the swapping table: its run, read at its arguments and its counters. -/
theorem frame_kernel_swap : Cert.quiescent_Kernel := fun m ρ hp =>
  (θ_run Cert.KernelIdeal.defs _ _).mono (fun _ h => ⟨fun c => (h.1 c).2, h.2⟩)
    (run_main (F := Bits) true m ρ fun c => table_of_swap _ _ (hp c))

/-- The kernel's frame under the keeping table. -/
theorem frame_kernel_keep : Cert.quiescent_Kernel_pre_keep_Kernel := fun m ρ hp =>
  (θ_run Cert.KernelIdeal.defs _ _).mono (fun _ h => ⟨fun c => (h.1 c).2, h.2⟩)
    (run_main (F := Bits) false m ρ fun c => table_of_keep _ _ (hp c))

/-- The idealized kernel's frame under the swapping table. -/
theorem frame_ideal_swap : Cert.quiescent_KernelIdeal := fun m ρ hp =>
  (θ_run Cert.KernelIdeal.defs _ _).mono (fun _ h => ⟨fun c => (h.1 c).2, h.2⟩)
    (run_main (F := Ideal) true m ρ fun c => table_of_swap _ _ (hp c))

/-- The idealized kernel's frame under the keeping table. -/
theorem frame_ideal_keep : Cert.quiescent_KernelIdeal_pre_keep_Kernel := fun m ρ hp =>
  (θ_run Cert.KernelIdeal.defs _ _).mono (fun _ h => ⟨fun c => (h.1 c).2, h.2⟩)
    (run_main (F := Ideal) false m ρ fun c => table_of_keep _ _ (hp c))

/-- The value of the result at either table. When the devices' blocks are the parts of one array `x` and every table
    is `sw`'s, each device's result ends holding its part of `x` with the rows in the table's order, which is what
    the reference returns; the arguments of both end unchanged. -/
theorem value (sw : Bool) (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (ρ' : Dev Cert.ReferenceIdeal.nD → PrngReg) (hT : Tables sw m)
    (hb : ∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨rows sw _, ?_, reference_run sw m' ρ' ((hb 0).2.symm.trans (hT 0))⟩
  refine (θ_run Cert.KernelIdeal.defs _ _).mono (fun _ h c => ⟨(h.1 c).1.trans ?_, (h.1 c).2⟩)
    (run_main (F := Ideal) sw m ρ hT)
  refine Eq.trans ?_ (block_rows sw c _).symm
  cases sw
  · exact (hb c).1
  · exact (hb (nbr c)).1

/-- The value claim under the swapping table. -/
theorem value_swap : Cert.algebraic_KernelIdeal_ReferenceIdeal := fun m ρ m' ρ' hp hb =>
  value true m ρ m' ρ' (fun c => table_of_swap _ _ (hp c)) hb

/-- The value claim under the keeping table. -/
theorem value_keep : Cert.algebraic_KernelIdeal_ReferenceIdeal_pre_keep_Kernel := fun m ρ m' ρ' hp hb =>
  value false m ρ m' ρ' (fun c => table_of_keep _ _ (hp c)) hb

/-- Everything claimed. -/
theorem claim : Cert.Claim := ⟨Cert.Kernel.Gen.facts, Cert.KernelIdeal.Gen.facts, Cert.ReferenceIdeal.Gen.facts, Cert.Pre_swap_Kernel.Gen.facts, Cert.Pre_keep_Kernel.Gen.facts, Cert.Pre_swap_ReferenceIdeal.Gen.facts, Cert.Pre_keep_ReferenceIdeal.Gen.facts,
  frame_kernel_swap, frame_kernel_keep, frame_ideal_swap, frame_ideal_keep,
  fun m ρ _ => reference_frame m ρ, fun m ρ _ => reference_frame m ρ, fun m ρ _ => reference_frame m ρ,
  trivial, value_swap, value_keep⟩

end Cert.Proof

end
